-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ preserves_Kernel_KernelIdeal
    ∧ algebraic_KernelIdeal_ReferenceIdeal_pre_finite_qk (hKernelIdeal := hKernelIdeal) (hReferenceIdeal := hReferenceIdeal) (hPre_finite_qk := hPre_finite_qk)
-- ==== Pre_finite_qk.lean ====
abbrev S8x16x128 : Shape := ⟨3, ![8, 16, 128]⟩
abbrev S8x16x4096x128 : Shape := ⟨4, ![8, 16, 4096, 128]⟩
abbrev S_ : Shape := ⟨0, ![]⟩
abbrev S8x16x1x128 : Shape := ⟨4, ![8, 16, 1, 128]⟩

class Facts : Prop where
  bcast_S_S8x16x128 : S_.BroadcastsInDim S8x16x128 (![] : Fin 0 → Fin S8x16x128.rank)
  bcast_S8x16x128_S8x16x1x128_0_1_3 : S8x16x128.BroadcastsInDim S8x16x1x128 (![0, 1, 3] : Fin 3 → Fin S8x16x1x128.rank)
  bcast_S_S8x16x4096x128 : S_.BroadcastsInDim S8x16x4096x128 (![] : Fin 0 → Fin S8x16x4096x128.rank)
  bcast_S8x16x1x128_S8x16x4096x128_0_1_2_3 : S8x16x1x128.BroadcastsInDim S8x16x4096x128 (![0, 1, 2, 3] : Fin 4 → Fin S8x16x4096x128.rank)

variable [Facts]

def fn {F : FTy → Type} [FloatOps F] (main_arg0 : FVec F S8x16x128 .f32) (main_arg1 : FVec F S8x16x4096x128 .f32) (main_arg2 : FVec F S8x16x4096x128 .f32) : IVec S8x16x4096x128 1 :=
  let main_v0 : FVec F S8x16x128 .f32 := Host.absf main_arg0
  let main_cst : FVec F S_ .f32 := constant S_ .f32 0x7F800000#32
  let main_v1 : FVec F S8x16x128 .f32 := broadcastInDim S8x16x128 ![] bcast_S_S8x16x128 main_cst
  let main_v2 : IVec S8x16x128 1 := cmpf .olt main_v0 main_v1
  let main_v3 : IVec S8x16x1x128 1 := broadcastInDim S8x16x1x128 ![0, 1, 3] bcast_S8x16x128_S8x16x1x128_0_1_3 main_v2
  let main_v4 : FVec F S8x16x4096x128 .f32 := Host.absf main_arg1
  let main_cst_0 : FVec F S_ .f32 := constant S_ .f32 0x7F800000#32
  let main_v5 : FVec F S8x16x4096x128 .f32 := broadcastInDim S8x16x4096x128 ![] bcast_S_S8x16x4096x128 main_cst_0
  let main_v6 : IVec S8x16x4096x128 1 := cmpf .olt main_v4 main_v5
  let main_v7 : IVec S8x16x4096x128 1 := broadcastInDim S8x16x4096x128 ![0, 1, 2, 3] bcast_S8x16x1x128_S8x16x4096x128_0_1_2_3 main_v3
  let main_v8 : IVec S8x16x4096x128 1 := andi main_v7 main_v6
  main_v8
-- ==== Kernel.lean ====
abbrev S8x16x128 : Shape := ⟨3, ![8, 16, 128]⟩
abbrev S8x16x4096x128 : Shape := ⟨4, ![8, 16, 4096, 128]⟩
abbrev S8x16x64x64x128 : Shape := ⟨5, ![8, 16, 64, 64, 128]⟩
abbrev S8x16x1x128 : Shape := ⟨4, ![8, 16, 1, 128]⟩
abbrev S8x16x64x64 : Shape := ⟨4, ![8, 16, 64, 64]⟩
abbrev S8x16x1x64 : Shape := ⟨4, ![8, 16, 1, 64]⟩
abbrev S1x4x1x128 : Shape := ⟨4, ![1, 4, 1, 128]⟩
abbrev S1x4x64x64x128 : Shape := ⟨5, ![1, 4, 64, 64, 128]⟩
abbrev S1x4x64x64 : Shape := ⟨4, ![1, 4, 64, 64]⟩
abbrev S1x4x1x64 : Shape := ⟨4, ![1, 4, 1, 64]⟩
abbrev S1x1x1x128 : Shape := ⟨4, ![1, 1, 1, 128]⟩
abbrev S128 : Shape := ⟨1, ![128]⟩
abbrev S1x1x64x64x128 : Shape := ⟨5, ![1, 1, 64, 64, 128]⟩
abbrev S64x64x128 : Shape := ⟨3, ![64, 64, 128]⟩
abbrev S1x1x128 : Shape := ⟨3, ![1, 1, 128]⟩
abbrev S64x64 : Shape := ⟨2, ![64, 64]⟩
abbrev S1x1x64x64 : Shape := ⟨4, ![1, 1, 64, 64]⟩
abbrev S64x128 : Shape := ⟨2, ![64, 128]⟩
abbrev S1x128 : Shape := ⟨2, ![1, 128]⟩
abbrev S64 : Shape := ⟨1, ![64]⟩
abbrev S1x1x1x64 : Shape := ⟨4, ![1, 1, 1, 64]⟩
abbrev S1x64 : Shape := ⟨2, ![1, 64]⟩
abbrev S64x1 : Shape := ⟨2, ![64, 1]⟩
abbrev S1x64x64 : Shape := ⟨3, ![1, 64, 64]⟩
abbrev S1 : Shape := ⟨1, ![1]⟩
abbrev S1x1x1 : Shape := ⟨3, ![1, 1, 1]⟩
abbrev S1x64x128 : Shape := ⟨3, ![1, 64, 128]⟩

abbrev nBuf : Space → Nat
  | .hbm => 11
  | .vmem => 20
  | .smem => 0
  | _ => 0

abbrev bufTy : (tb : Table) → Fin (tcTables nBuf tb) → BufTy
  | .hbm, ⟨0, _⟩ => ⟨S8x16x128, .f32⟩
  | .hbm, ⟨1, _⟩ => ⟨S8x16x4096x128, .f32⟩
  | .hbm, ⟨2, _⟩ => ⟨S8x16x4096x128, .f32⟩
  | .hbm, ⟨3, _⟩ => ⟨S8x16x64x64x128, .f32⟩
  | .hbm, ⟨4, _⟩ => ⟨S8x16x64x64x128, .f32⟩
  | .hbm, ⟨5, _⟩ => ⟨S8x16x1x128, .f32⟩
  | .hbm, ⟨6, _⟩ => ⟨S8x16x64x64, .f32⟩
  | .hbm, ⟨7, _⟩ => ⟨S8x16x1x64, .f32⟩
  | .hbm, ⟨8, _⟩ => ⟨S8x16x64x64, .f32⟩
  | .hbm, ⟨9, _⟩ => ⟨S8x16x1x128, .f32⟩
  | .hbm, ⟨10, _⟩ => ⟨S8x16x128, .f32⟩
  | .local _ .vmem, ⟨0, _⟩ => ⟨S1x4x1x128, .f32⟩
  | .local _ .vmem, ⟨1, _⟩ => ⟨S1x4x1x128, .f32⟩
  | .local _ .vmem, ⟨2, _⟩ => ⟨S1x4x64x64x128, .f32⟩
  | .local _ .vmem, ⟨3, _⟩ => ⟨S1x4x64x64x128, .f32⟩
  | .local _ .vmem, ⟨4, _⟩ => ⟨S1x4x64x64, .f32⟩
  | .local _ .vmem, ⟨5, _⟩ => ⟨S1x4x64x64, .f32⟩
  | .local _ .vmem, ⟨6, _⟩ => ⟨S1x4x1x64, .f32⟩
  | .local _ .vmem, ⟨7, _⟩ => ⟨S1x4x1x64, .f32⟩
  | .local _ .vmem, ⟨8, _⟩ => ⟨S1x4x64x64, .f32⟩
  | .local _ .vmem, ⟨9, _⟩ => ⟨S1x4x64x64, .f32⟩
  | .local _ .vmem, ⟨10, _⟩ => ⟨S1x4x64x64, .f32⟩
  | .local _ .vmem, ⟨11, _⟩ => ⟨S1x4x64x64, .f32⟩
  | .local _ .vmem, ⟨12, _⟩ => ⟨S1x4x1x64, .f32⟩
  | .local _ .vmem, ⟨13, _⟩ => ⟨S1x4x1x64, .f32⟩
  | .local _ .vmem, ⟨14, _⟩ => ⟨S1x4x64x64, .f32⟩
  | .local _ .vmem, ⟨15, _⟩ => ⟨S1x4x64x64, .f32⟩
  | .local _ .vmem, ⟨16, _⟩ => ⟨S1x4x64x64x128, .f32⟩
  | .local _ .vmem, ⟨17, _⟩ => ⟨S1x4x64x64x128, .f32⟩
  | .local _ .vmem, ⟨18, _⟩ => ⟨S1x4x1x128, .f32⟩
  | .local _ .vmem, ⟨19, _⟩ => ⟨S1x4x1x128, .f32⟩
  | _, _ => ⟨S8x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3_0 : Ref sig .tc := ⟨.hbm, 6, rfl⟩
abbrev main_call0_v3_1 : Ref sig .tc := ⟨.hbm, 7, rfl⟩
abbrev main_call0_v3_2 : Ref sig .tc := ⟨.hbm, 8, rfl⟩
abbrev main_call0_v4 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x64x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x4x64x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4x1x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x4x64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x4x64x64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x4x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S8x16x128 : Shape := ⟨3, ![8, 16, 128]⟩
abbrev S8x16x4096x128 : Shape := ⟨4, ![8, 16, 4096, 128]⟩
abbrev S_ : Shape := ⟨0, ![]⟩
abbrev S8x16x64x64x128 : Shape := ⟨5, ![8, 16, 64, 64, 128]⟩
abbrev S8x16x64x128 : Shape := ⟨4, ![8, 16, 64, 128]⟩
abbrev S8x16x64 : Shape := ⟨3, ![8, 16, 64]⟩
abbrev S8x16x32 : Shape := ⟨3, ![8, 16, 32]⟩
abbrev S8x16x32x1 : Shape := ⟨4, ![8, 16, 32, 1]⟩
abbrev S1x1x1x64 : Shape := ⟨4, ![1, 1, 1, 64]⟩
abbrev S8x16x32x64 : Shape := ⟨4, ![8, 16, 32, 64]⟩
abbrev S8x16x64x64 : Shape := ⟨4, ![8, 16, 64, 64]⟩
abbrev S8x16x4096 : Shape := ⟨3, ![8, 16, 4096]⟩
abbrev S8x16 : Shape := ⟨2, ![8, 16]⟩
abbrev S8x16x1 : Shape := ⟨3, ![8, 16, 1]⟩

abbrev nBuf : Space → Nat
  | .hbm => 52
  | .vmem => 0
  | .smem => 0
  | _ => 0

abbrev bufTy : (tb : Table) → Fin (tcTables nBuf tb) → BufTy
  | .hbm, ⟨0, _⟩ => ⟨S8x16x128, .f32⟩
  | .hbm, ⟨1, _⟩ => ⟨S8x16x4096x128, .f32⟩
  | .hbm, ⟨2, _⟩ => ⟨S8x16x4096x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x16x64x64x128, .f32⟩
  | .hbm, ⟨8, _⟩ => ⟨S_, .f32⟩
  | .hbm, ⟨9, _⟩ => ⟨S8x16x64x128, .f32⟩
  | .hbm, ⟨10, _⟩ => ⟨S_, .f32⟩
  | .hbm, ⟨11, _⟩ => ⟨S8x16x64x128, .f32⟩
  | .hbm, ⟨12, _⟩ => ⟨S8x16x64, .f32⟩
  | .hbm, ⟨13, _⟩ => ⟨S8x16x64, .f32⟩
  | .hbm, ⟨14, _⟩ => ⟨S8x16x64, .f32⟩
  | .hbm, ⟨15, _⟩ => ⟨S8x16x32, .f32⟩
  | .hbm, ⟨16, _⟩ => ⟨S8x16x32, .i32⟩
  | .hbm, ⟨17, _⟩ => ⟨S8x16x32x1, .i32⟩
  | .hbm, ⟨18, _⟩ => ⟨S1x1x1x64, .i32⟩
  | .hbm, ⟨19, _⟩ => ⟨S8x16x32x64, .i32⟩
  | .hbm, ⟨20, _⟩ => ⟨S8x16x32x64, .i32⟩
  | .hbm, ⟨21, _⟩ => ⟨S8x16x32x64, .i1⟩
  | .hbm, ⟨22, _⟩ => ⟨S8x16x32x64, .f32⟩
  | .hbm, ⟨23, _⟩ => ⟨S_, .f32⟩
  | .hbm, ⟨24, _⟩ => ⟨S8x16x64, .f32⟩
  | .hbm, ⟨25, _⟩ => ⟨S8x16x64x64, .f32⟩
  | .hbm, ⟨26, _⟩ => ⟨S8x16x4096, .f32⟩
  | .hbm, ⟨27, _⟩ => ⟨S8x16x4096, .f32⟩
  | .hbm, ⟨28, _⟩ => ⟨S8x16x4096, .f32⟩
  | .hbm, ⟨29, _⟩ => ⟨S8x16x4096, .f32⟩
  | .hbm, ⟨30, _⟩ => ⟨S_, .f32⟩
  | .hbm, ⟨31, _⟩ => ⟨S8x16x4096, .f32⟩
  | .hbm, ⟨32, _⟩ => ⟨S8x16x4096, .i1⟩
  | .hbm, ⟨33, _⟩ => ⟨S_, .f32⟩
  | .hbm, ⟨34, _⟩ => ⟨S_, .f32⟩
  | .hbm, ⟨35, _⟩ => ⟨S8x16x4096, .f32⟩
  | .hbm, ⟨36, _⟩ => ⟨S8x16x4096, .f32⟩
  | .hbm, ⟨37, _⟩ => ⟨S_, .f32⟩
  | .hbm, ⟨38, _⟩ => ⟨S8x16, .f32⟩
  | .hbm, ⟨39, _⟩ => ⟨S_, .f32⟩
  | .hbm, ⟨40, _⟩ => ⟨S8x16, .f32⟩
  | .hbm, ⟨41, _⟩ => ⟨S8x16, .f32⟩
  | .hbm, ⟨42, _⟩ => ⟨S8x16x1, .f32⟩
  | .hbm, ⟨43, _⟩ => ⟨S8x16x4096, .f32⟩
  | .hbm, ⟨44, _⟩ => ⟨S8x16x4096, .f32⟩
  | .hbm, ⟨45, _⟩ => ⟨S8x16x4096, .f32⟩
  | .hbm, ⟨46, _⟩ => ⟨S_, .f32⟩
  | .hbm, ⟨47, _⟩ => ⟨S8x16, .f32⟩
  | .hbm, ⟨48, _⟩ => ⟨S8x16x1, .f32⟩
  | .hbm, ⟨49, _⟩ => ⟨S8x16x4096, .f32⟩
  | .hbm, ⟨50, _⟩ => ⟨S8x16x4096, .f32⟩
  | .hbm, ⟨51, _⟩ => ⟨S8x16x128, .f32⟩
  | _, _ => ⟨S8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_values : Ref sig .tc := ⟨.hbm, 15, rfl⟩
abbrev main_indices : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_cst_5 : Ref sig .tc := ⟨.hbm, 33, rfl⟩
abbrev main_call1_v0 : Ref sig .tc := ⟨.hbm, 34, rfl⟩
abbrev main_call1_v1 : Ref sig .tc := ⟨.hbm, 35, rfl⟩
abbrev main_v17 : Ref sig .tc := ⟨.hbm, 36, rfl⟩
abbrev main_cst_6 : Ref sig .tc := ⟨.hbm, 37, rfl⟩
abbrev main_v18 : Ref sig .tc := ⟨.hbm, 38, rfl⟩
abbrev main_cst_7 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_8 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]
-- ==== Proof.Run.lean ====
/- What a run of the idealized kernel leaves in its result array, and that the arguments end as launched. -/
module

public import proofs.«01_k».proof.Proof.Gen.KernelIdeal
public import proofs.«01_k».proof.Proof.Gen.KernelIdeal.Frame

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)

set_option backward.isDefEq.respectTransparency.types false in
/-- Every run of the kernel ends with the result array at the contents the last segment boundary gives it, and with
    the three argument arrays as launched. -/
theorem run : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.Value

end
-- ==== Proof.Rank.lean ====
/- A stable descending sort selects exactly the positions of small rank, the rank of a position being the number of
   positions that come before it: a greater key, or an equal key at a lower position. -/
module

public import Idealize.ShloMosaic.Lib.SortFacts
public import Idealize.ShloMosaic.Lib.SortPrefix
public import Idealize.ShloMosaic.PureOps.Ideal

@[expose] public section

namespace Cert.Rank

open Idealize.ShloMosaic

variable {n : ℕ} (key : Fin n → EReal)

/-- Position `j` comes before position `i`: its key is greater, or equal with `j` the lower position. -/
noncomputable def before (j i : Fin n) : Bool :=
  decide (key i < key j) || (decide (key j = key i) && decide (j < i))

/-- `before` is a strict total order of the positions. -/
theorem before_total : StrictTotalBefore (before key) :=
  StrictTotalBefore.of_key_then_position (fun a b : EReal => decide (b < a)) key (fun a => by simp)
    (fun a b c hab hbc => by simp only [decide_eq_true_eq] at *; exact lt_trans hbc hab)
    (fun a b => by
      rcases lt_trichotomy a b with h | h | h
      · exact .inr (.inr (by simpa using h))
      · exact .inr (.inl h)
      · exact .inl (by simpa using h))

/-- The number of positions that come before `i`. -/
noncomputable def rank (i : Fin n) : ℕ := (Finset.univ.filter fun j => before key j i = true).card

/-- A position that comes before `i` is not `i`. -/
theorem before_ne (j i : Fin n) : (before key j i && decide (j ≠ i)) = before key j i := by
  by_cases h : j = i
  · subst h; rw [(before_total key).irrefl]; rfl
  · simp [h]

/-- On a list in position order, sorting stably by the key alone is sorting by `before`. -/
theorem stableSort_key (l : List (Fin n)) (hl : l.Pairwise (· < ·)) :
    stableSort (fun j i => decide (key i < key j)) l = stableSort (before key) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [before, not_lt.mpr hab.le]

/-- Sorting all positions stably by the key alone is sorting them by `before`. -/
theorem sortedFrom_key : sortedFrom (fun j i => decide (key i < key j)) = sortedFrom (before key) := by
  have h : sortPositions n (fun j i => decide (key i < key j)) = sortPositions n (before key) :=
    stableSort_key key _ (List.pairwise_lt_finRange n)
  funext k
  unfold sortedFrom
  rw [List.get_of_eq h]
  rfl

/-- The position sorted to place `k` has rank `k`. -/
theorem rank_sortedFrom (k : Fin n) : rank key (sortedFrom (before key) k) = k.val := by
  have ht := before_total key
  have hlt (i j : Fin n) (h : i < j) : before key (sortedFrom (before key) j) (sortedFrom (before key) i) = false :=
    sortedFrom_noInversion (before key) (before key) (fun a b h => ht.asymm a b h) (fun _ _ h => h) ht.negTrans i j h
  have hset : (Finset.univ.filter fun j => before key j (sortedFrom (before key) k) = true)
      = (Finset.univ.filter fun j => j < k).image (sortedFrom (before key)) := by
    ext x
    simp only [Finset.mem_filter, Finset.mem_univ, true_and, Finset.mem_image]
    constructor
    · intro hx
      obtain ⟨j, rfl⟩ := sortedFrom_surjective (before key) x
      refine ⟨j, ?_, rfl⟩
      rcases lt_trichotomy j k with h | h | h
      · exact h
      · subst h; rw [ht.irrefl] at hx; exact absurd hx (by decide)
      · rw [hlt k j h] at hx; exact absurd hx (by decide)
    · rintro ⟨j, hj, rfl⟩
      rcases ht.total _ _ ((sortedFrom_injective (before key)).ne hj.ne) with h | h
      · exact h
      · rw [hlt j k hj] at h; exact absurd h (by decide)
  rw [rank, hset, Finset.card_image_of_injective _ (sortedFrom_injective _)]
  rw [show (Finset.univ.filter fun j : Fin n => j < k) = Finset.Iio k by ext; simp]
  exact Fin.card_Iio k

/-- A position is among the first `k` of the sort exactly when its rank is below `k`. -/
theorem among_first {k : ℕ} (hk : k ≤ n) (c : Fin n) :
    (∃ r : Fin k, sortedFrom (before key) (r.castLE hk) = c) ↔ rank key c < k := by
  constructor
  · rintro ⟨r, rfl⟩
    rw [rank_sortedFrom]
    exact r.isLt
  · intro h
    obtain ⟨j, rfl⟩ := sortedFrom_surjective (before key) c
    rw [rank_sortedFrom] at h
    exact ⟨⟨j.val, h⟩, rfl⟩

/-- Some position has rank below `k`, when there are positions and `k` is not zero. -/
theorem exists_rank_lt {k : ℕ} (hn : 0 < n) (hk : 0 < k) : ∃ c : Fin n, rank key c < k :=
  ⟨sortedFrom (before key) ⟨0, hn⟩, by rw [rank_sortedFrom]; exact hk⟩

end Cert.Rank

end
-- ==== Proof.Softmax.lean ====
/- The two ways of taking a softmax average over the selected chunks agree: subtracting the maximum of all scores and
   zeroing the unselected weights, against sending the unselected scores to minus infinity and subtracting the maximum
   of what is left. Scores are real numbers; the averaged values are arbitrary extended reals. -/
module

public import Idealize.ShloMosaic.PureOps.Ideal
public import Idealize.ShloMosaic.PureOps.Ideal.Laws

@[expose] public section

namespace Cert.Softmax

open Idealize.ShloMosaic

/-- A real factor that is not negative goes inside a sum of extended reals. -/
theorem coe_mul_sum {ι : Type} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, ← ih]
    exact EReal.left_distrib_of_nonneg_of_ne_top (EReal.coe_nonneg.mpr ha) (EReal.coe_ne_top a) _ _

/-- A sum of real numbers, taken in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The maximum of finitely many extended reals, none of them plus infinity and one of them real, is real. -/
theorem fold_max_real {ι : Type} [Fintype ι] (f : ι → EReal) (htop : ∀ i, f i ≠ ⊤) (i₀ : ι) (r₀ : ℝ) (h₀ : f i₀ = r₀) :
    ∃ M : ℝ, Finset.univ.fold max ⊥ f = (M : EReal) := by
  have hsup : Finset.univ.fold max ⊥ f = Finset.univ.sup f := rfl
  rw [hsup]
  obtain ⟨i, -, hi⟩ := Finset.exists_mem_eq_sup Finset.univ ⟨i₀, Finset.mem_univ i₀⟩ f
  have hle : (r₀ : EReal) ≤ Finset.univ.sup f := h₀ ▸ Finset.le_sup (Finset.mem_univ i₀)
  have hbot : Finset.univ.sup f ≠ ⊥ := fun e => by rw [e] at hle; exact absurd hle (by simp)
  exact ⟨(Finset.univ.sup f).toReal, (EReal.coe_toReal (by rw [hi]; exact htop i) hbot).symm⟩

variable {C S : Type} [Fintype C] [Fintype S]

/-- THE SOFTMAX EQUATION. Real scores `r`, selected chunks `sel` (at least one), any values `v`, any two real shifts. -/
theorem average_eq [Nonempty S] (r : C → S → ℝ) (sel : C → Prop) [DecidablePred sel] (hsel : ∃ c, sel c) (v : C → S → EReal) (M M' : ℝ) :
    Ideal.div (∑ s, ∑ c, (Ideal.exp ((r c s : EReal) - M) * (if sel c then 1 else 0)) * v c s)
        (∑ c, ∑ s, Ideal.exp ((r c s : EReal) - M) * (if sel c then 1 else 0))
      = ∑ c, ∑ s, Ideal.div (Ideal.exp ((if sel c then (r c s : EReal) else ⊥) - M'))
          (∑ c, ∑ s, Ideal.exp ((if sel c then (r c s : EReal) else ⊥) - M')) * v c s := by
  set a : C → S → ℝ := fun c s => if sel c then Real.exp (r c s - M) else 0 with ha
  have hp (c : C) (s : S) : Ideal.exp ((r c s : EReal) - M) * (if sel c then 1 else 0) = (a c s : EReal) := by
    rw [← EReal.coe_sub, Ideal.exp_coe]
    by_cases h : sel c <;> simp [ha, h]
  have hw (c : C) (s : S) : Ideal.exp ((if sel c then (r c s : EReal) else ⊥) - M') = ((Real.exp (M - M') * a c s : ℝ) : EReal) := by
    by_cases h : sel c
    · simp only [h, if_true, ha]
      rw [← EReal.coe_sub, Ideal.exp_coe, ← Real.exp_add]
      congr 2; ring
    · simp [h, ha]
  simp only [hp, hw, ← coe_sum]
  have ha0 (c : C) (s : S) : 0 ≤ a c s := by
    by_cases h : sel c
    · simp only [ha, h, if_true]; exact (Real.exp_pos _).le
    · simp [ha, h]
  have hA : 0 < ∑ c, ∑ s, a c s := by
    obtain ⟨c₀, hc₀⟩ := hsel
    obtain ⟨s₀⟩ := ‹Nonempty S›
    refine Finset.sum_pos' (fun c _ => Finset.sum_nonneg fun s _ => ha0 c s) ⟨c₀, Finset.mem_univ _, ?_⟩
    refine Finset.sum_pos' (fun s _ => ha0 c₀ s) ⟨s₀, Finset.mem_univ _, ?_⟩
    simp only [ha, hc₀, if_true]; exact Real.exp_pos _
  have hl : 0 < Real.exp (M - M') := Real.exp_pos _
  have hA' : ∑ c, ∑ s, Real.exp (M - M') * a c s = Real.exp (M - M') * ∑ c, ∑ s, a c s := by
    simp only [Finset.mul_sum]
  rw [hA', Ideal.div_coe hA.ne']
  have hterm (c : C) (s : S) : Ideal.div ((Real.exp (M - M') * a c s : ℝ) : EReal) ((Real.exp (M - M') * ∑ c, ∑ s, a c s : ℝ) : EReal) * v c s
      = ((1 / ∑ c, ∑ s, a c s : ℝ) : EReal) * ((a c s : EReal) * v c s) := by
    rw [Ideal.div_coe (mul_pos hl hA).ne', ← mul_assoc, ← EReal.coe_mul, ← EReal.coe_mul]
    congr 2
    field_simp
  simp only [hterm]
  have hi : (0 : ℝ) ≤ 1 / ∑ c, ∑ s, a c s := (one_div_pos.mpr hA).le
  generalize (1 / ∑ c, ∑ s, a c s : ℝ) = z at hi ⊢
  rw [mul_comm, Finset.sum_comm, coe_mul_sum _ z hi]
  exact Finset.sum_congr rfl fun c _ => coe_mul_sum _ z hi _

end Cert.Softmax

end
-- ==== Proof.Ind.lean ====
/- A comparison's bit turned into a number: one when it holds and zero when it does not, and sums of such numbers. -/
module

public import proofs.«01_k».proof.Proof.Rank
public import proofs.«01_k».proof.Proof.Softmax
public import Idealize.ShloMosaic.Lib.IdealHost
public import Idealize.ShloMosaic.Lib.WordCmp

@[expose] public section

noncomputable section

namespace Cert.Ind

open Idealize.ShloMosaic

/-- A bit widened and read as a signed number. -/
theorem sitofp_bit (b : Bool) :
    (FloatOps.sitofp .f32 (BitVec.setWidth 32 (BitVec.ofBool b)) : Ideal .f32) = if b then (1 : EReal) else 0 := by
  cases b <;> simp [FloatOps.sitofp]

/-- A bit read as an unsigned number. -/
theorem uitofp_bit (b : Bool) :
    (FloatOps.uitofp .f32 (BitVec.ofBool b) : Ideal .f32) = if b then (1 : EReal) else 0 := by
  cases b <;> simp [FloatOps.uitofp]

/-- Equality of two small numbers as words. -/
theorem cmpi_eq (a b : Fin 64) :
    IntOp.cmpi .eq (BitVec.ofNat 32 a) (BitVec.ofNat 32 b) = BitVec.ofBool (decide (a = b)) := by
  word_cmp
  simp only [Fin.ext_iff]

/-- Inequality of two small numbers as words. -/
theorem cmpi_ne (a b : Fin 64) :
    IntOp.cmpi .ne (BitVec.ofNat 32 a) (BitVec.ofNat 32 b) = BitVec.ofBool (decide (a ≠ b)) := by
  word_cmp
  simp only [ne_eq, Fin.ext_iff]

/-- Order of two small numbers as words. -/
theorem cmpi_slt (a b : Fin 64) :
    IntOp.cmpi .slt (BitVec.ofNat 32 a) (BitVec.ofNat 32 b) = BitVec.ofBool (decide (a < b)) := by
  word_cmp
  simp only [Fin.lt_def]

/-- The conjunction of two bits. -/
theorem andi_bit (a b : Bool) : IntOp.andi (BitVec.ofBool a) (BitVec.ofBool b) = BitVec.ofBool (a && b) := by
  cases a <;> cases b <;> rfl

/-- The disjunction of two bits. -/
theorem ori_bit (a b : Bool) : IntOp.ori (BitVec.ofBool a) (BitVec.ofBool b) = BitVec.ofBool (a || b) := by
  cases a <;> cases b <;> rfl

/-- The sum of the ones of a set's members is its number of members. -/
theorem sum_ite_one {n : ℕ} (p : Fin n → Prop) [DecidablePred p] :
    (∑ x : Fin n, if p x then (1 : EReal) else 0) = (((Finset.univ.filter p).card : ℝ) : EReal) := by
  rw [Finset.sum_boole]
  simp

/-- The float pattern of minus infinity. -/
theorem ofBits_bot : Ideal.ofBits .f32 0xFF800000#32 = ⊥ := by
  simp [Ideal.ofBits, Ideal.ieee, -EReal.coe_mul]

/-- The float pattern of plus infinity. -/
theorem ofBits_top : Ideal.ofBits .f32 0x7F800000#32 = ⊤ := by
  simp [Ideal.ofBits, Ideal.ieee, -EReal.coe_mul]

/-- The float pattern of thirty-two. -/
theorem ofBits_32 : Ideal.ofBits .f32 0x42000000#32 = ((32 : ℝ) : EReal) := by
  simp [Ideal.ofBits, Ideal.ieee, -EReal.coe_mul]; norm_num

/-- The float pattern of one hundred and twenty-eight. -/
theorem ofBits_128 : Ideal.ofBits .f32 0x43000000#32 = ((128 : ℝ) : EReal) := by
  simp [Ideal.ofBits, Ideal.ieee, -EReal.coe_mul]; norm_num

/-- A count below thirty-two, compared as extended reals. -/
theorem count_lt (n k : ℕ) : (((n : ℝ) : EReal) < ((k : ℝ) : EReal)) ↔ n < k := by
  rw [EReal.coe_lt_coe_iff, Nat.cast_lt]

end Cert.Ind

end
-- ==== Proof.Score.lean ====
/- The score kernel stores, for each of the block's four heads, the token scores, the chunk scores and the chunk scores
   repeated; the four heads' stores are three functions of the head's own blocks, read here at an index. -/
module

public import proofs.«01_k».proof.Proof.Ind
public import proofs.«01_k».proof.Proof.Gen.KernelIdeal
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.KernelIdeal.Score

open Cert.KernelIdeal Cert.KernelIdeal.Gen
open Idealize.ShloMosaic Idealize.ShloMosaic.TcCoe Idealize.SL.Sem

section Blocks
variable {F : FTy → Type} [FloatOps F] [Named F]

/-- The token scores' block with each head's store spelt as head zero's. -/
def blockTs (x0 : Vec F S1x4x1x128 .f32) (x1 : Vec F S1x4x64x64x128 .f32) : Vec F S1x4x64x64 .f32 :=
  View.canon [⟨r0_14, k0_pay6 (View.ld x0 r0_12) (View.ld x1 r0_13)⟩, ⟨r0_10, k0_pay6 (View.ld x0 r0_8) (View.ld x1 r0_9)⟩,
    ⟨r0_6, k0_pay6 (View.ld x0 r0_4) (View.ld x1 r0_5)⟩, ⟨r0_2, k0_pay6 (View.ld x0 r0_0) (View.ld x1 r0_1)⟩]

/-- The chunk scores' block with each head's store spelt as head zero's. -/
def blockCs (x0 : Vec F S1x4x1x128 .f32) (x1 : Vec F S1x4x64x64x128 .f32) : Vec F S1x4x1x64 .f32 :=
  View.canon [⟨r0_15, k0_pay8 (View.ld x0 r0_12) (View.ld x1 r0_13)⟩, ⟨r0_11, k0_pay8 (View.ld x0 r0_8) (View.ld x1 r0_9)⟩,
    ⟨r0_7, k0_pay8 (View.ld x0 r0_4) (View.ld x1 r0_5)⟩, ⟨r0_3, k0_pay8 (View.ld x0 r0_0) (View.ld x1 r0_1)⟩]

/-- The repeated chunk scores' block with each head's store spelt as head zero's. -/
def blockCsm (x0 : Vec F S1x4x1x128 .f32) (x1 : Vec F S1x4x64x64x128 .f32) : Vec F S1x4x64x64 .f32 :=
  View.canon [⟨r0_14, k0_pay9 (k0_pay7 (View.ld x0 r0_12) (View.ld x1 r0_13))⟩,
    ⟨r0_10, k0_pay9 (k0_pay7 (View.ld x0 r0_8) (View.ld x1 r0_9))⟩,
    ⟨r0_6, k0_pay9 (k0_pay7 (View.ld x0 r0_4) (View.ld x1 r0_5))⟩,
    ⟨r0_2, k0_pay9 (k0_pay7 (View.ld x0 r0_0) (View.ld x1 r0_1))⟩]

/-- What the body leaves in the token scores' block. -/
theorem out_ts (x0 : Vec F S1x4x1x128 .f32) (x1 : Vec F S1x4x64x64x128 .f32) : out0_2 x0 x1 = blockTs x0 x1 := rfl

/-- What the body leaves in the chunk scores' block. -/
theorem out_cs (x0 : Vec F S1x4x1x128 .f32) (x1 : Vec F S1x4x64x64x128 .f32) : out0_3 x0 x1 = blockCs x0 x1 := rfl

/-- What the body leaves in the repeated chunk scores' block. -/
theorem out_csm (x0 : Vec F S1x4x1x128 .f32) (x1 : Vec F S1x4x64x64x128 .f32) : out0_4 x0 x1 = blockCsm x0 x1 := rfl

end Blocks

/-- The score of a token's key `k` against the query `q`, scaled. -/
def token (q : Fin 128 → EReal) (k : Fin 128 → EReal) : EReal := (∑ d, k d * q d) * ((1 / Real.sqrt 128 : ℝ) : EReal)

/-- The score of a chunk of keys: the greater of the query against the keys' maxima and against their minima. -/
def chunk (q : Fin 128 → EReal) (k : Fin 64 → Fin 128 → EReal) : EReal :=
  max (∑ d, Finset.univ.fold max ⊥ (fun s => k s d) * q d) (∑ d, Finset.univ.fold min ⊤ (fun s => k s d) * q d)

/-- The named scale is the reciprocal of the square root of 128. -/
theorem scale_eq : (Named.named κ "scale" 1035273459#32 : Ideal .f32) = ((1 / Real.sqrt 128 : ℝ) : EReal) := by
  simp [Named.named, κ]

/-- Head zero's token scores at an index. -/
theorem pay_ts (q : Vec Ideal S1x1x1x128 .f32) (k : Vec Ideal S1x1x64x64x128 .f32) (x : S1x1x64x64.Idx) :
    k0_pay6 q k x = token (fun d => q (ix4 0 0 0 d)) (fun d => k (ix5 0 0 (x 2) (x 3) d)) := by
  pointwise [k0_pay6, k0_pay5, k0_pay4]
  simp only [scale_eq]
  rfl

/-- Head zero's chunk scores at an index. -/
theorem pay_cs (q : Vec Ideal S1x1x1x128 .f32) (k : Vec Ideal S1x1x64x64x128 .f32) (x : S1x1x1x64.Idx) :
    k0_pay8 q k x = chunk (fun d => q (ix4 0 0 0 d)) (fun s d => k (ix5 0 0 (x 3) s d)) := by
  pointwise [k0_pay8, k0_pay7, k0_pay5, k0_pay4]
  rw [Ind.ofBits_bot, Ind.ofBits_top]
  rfl

/-- Head zero's repeated chunk scores at an index. -/
theorem pay_csm (q : Vec Ideal S1x1x1x128 .f32) (k : Vec Ideal S1x1x64x64x128 .f32) (x : S1x1x64x64.Idx) :
    k0_pay9 (k0_pay7 q k) x = chunk (fun d => q (ix4 0 0 0 d)) (fun s d => k (ix5 0 0 (x 3) s d)) := by
  pointwise [k0_pay9, k0_pay7, k0_pay5, k0_pay4]
  rw [Ind.ofBits_bot, Ind.ofBits_top]
  rfl

/-- The token scores' block at an index. -/
theorem blockTs_at (x0 : Vec Ideal S1x4x1x128 .f32) (x1 : Vec Ideal S1x4x64x64x128 .f32) (y : S1x4x64x64.Idx) :
    blockTs x0 x1 y = token (fun d => x0 (ix4 0 (y 1) 0 d)) (fun d => x1 (ix5 0 (y 1) (y 2) (y 3) d)) := by
  unfold blockTs
  canon_tiles x h
  all_goals (rw [pay_ts]; refine congrArg₂ token (funext fun d => ?_) (funext fun d => ?_) <;> (pointwise; blk_ext))

/-- The chunk scores' block at an index. -/
theorem blockCs_at (x0 : Vec Ideal S1x4x1x128 .f32) (x1 : Vec Ideal S1x4x64x64x128 .f32) (y : S1x4x1x64.Idx) :
    blockCs x0 x1 y = chunk (fun d => x0 (ix4 0 (y 1) 0 d)) (fun s d => x1 (ix5 0 (y 1) (y 3) s d)) := by
  unfold blockCs
  canon_tiles x h
  all_goals (rw [pay_cs]; refine congrArg₂ chunk (funext fun d => ?_) (funext fun s => funext fun d => ?_) <;> (pointwise; blk_ext))

/-- The repeated chunk scores' block at an index. -/
theorem blockCsm_at (x0 : Vec Ideal S1x4x1x128 .f32) (x1 : Vec Ideal S1x4x64x64x128 .f32) (y : S1x4x64x64.Idx) :
    blockCsm x0 x1 y = chunk (fun d => x0 (ix4 0 (y 1) 0 d)) (fun s d => x1 (ix5 0 (y 1) (y 3) s d)) := by
  unfold blockCsm
  canon_tiles x h
  all_goals (rw [pay_csm]; refine congrArg₂ chunk (funext fun d => ?_) (funext fun s => funext fun d => ?_) <;> (pointwise; blk_ext))

end Cert.KernelIdeal.Score

end
-- ==== Proof.ScoreArr.lean ====
/- What the score kernel leaves in its three result arrays, from the query and key arrays it is given. -/
module

public import proofs.«01_k».proof.Proof.Score

@[expose] public section

set_option maxRecDepth 16384

noncomputable section

namespace Cert.KernelIdeal.Score

open Cert.KernelIdeal Cert.KernelIdeal.Gen
open Idealize.ShloMosaic Idealize.ShloMosaic.TcCoe Idealize.SL.Sem

variable (V : (c : Dev nD) → (b : Ref sig .tc) → Buf (Elt Ideal) ((c : Thread nD τ).loc b))

/-- Each window's block at a point: the batch entry, and the group of four heads. -/
theorem idx : ∀ t : Fin cfg0.N,
    win0_0.index t = ![t.val / 4, t.val % 4, 0, 0] ∧ win0_1.index t = ![t.val / 4, t.val % 4, 0, 0, 0]
      ∧ win0_2.index t = ![t.val / 4, t.val % 4, 0, 0] ∧ win0_3.index t = ![t.val / 4, t.val % 4, 0, 0]
      ∧ win0_4.index t = ![t.val / 4, t.val % 4, 0, 0] :=
  (by decide +kernel : ∀ t : Fin grid0.N, _)

/-- The token scores of all batch entries and heads. -/
def arrTs (Q : FVec Ideal S8x16x1x128 .f32) (K : FVec Ideal S8x16x64x64x128 .f32) : FVec Ideal S8x16x64x64 .f32 := fun i =>
  token (fun d => Q (ix4 (i 0) (i 1) 0 d)) (fun d => K (ix5 (i 0) (i 1) (i 2) (i 3) d))

/-- The chunk scores of all batch entries and heads. -/
def arrCs (Q : FVec Ideal S8x16x1x128 .f32) (K : FVec Ideal S8x16x64x64x128 .f32) : FVec Ideal S8x16x1x64 .f32 := fun i =>
  chunk (fun d => Q (ix4 (i 0) (i 1) 0 d)) (fun s d => K (ix5 (i 0) (i 1) (i 3) s d))

/-- The repeated chunk scores of all batch entries and heads. -/
def arrCsm (Q : FVec Ideal S8x16x1x128 .f32) (K : FVec Ideal S8x16x64x64x128 .f32) : FVec Ideal S8x16x64x64 .f32 := fun i =>
  chunk (fun d => Q (ix4 (i 0) (i 1) 0 d)) (fun s d => K (ix5 (i 0) (i 1) (i 3) s d))

/-- The token scores' array after the score kernel. -/
theorem ts_eq (c : Dev nD) : (dat0 V c).arrAt 2 cfg0.N = arrTs (V c main_call0_v2) (V c main_call0_v0) := by
  refine (dat0 V c).arrAt_eq_of_covers 2 _ (by decide +kernel) fun t _ y => ?_
  blk_simp
  rw [after0_2, out_ts]
  refine (blockTs_at _ _ _).trans ?_
  refine congrArg₂ token (funext fun d => ?_) (funext fun d => ?_) <;> blk_ext [iblk0, idx t]

/-- The chunk scores' array after the score kernel. -/
theorem cs_eq (c : Dev nD) : (dat0 V c).arrAt 3 cfg0.N = arrCs (V c main_call0_v2) (V c main_call0_v0) := by
  refine (dat0 V c).arrAt_eq_of_covers 3 _ (by decide +kernel) fun t _ y => ?_
  blk_simp
  rw [after0_3, out_cs]
  refine (blockCs_at _ _ _).trans ?_
  refine congrArg₂ chunk (funext fun d => ?_) (funext fun s => funext fun d => ?_) <;> blk_ext [iblk0, idx t]

/-- The repeated chunk scores' array after the score kernel. -/
theorem csm_eq (c : Dev nD) : (dat0 V c).arrAt 4 cfg0.N = arrCsm (V c main_call0_v2) (V c main_call0_v0) := by
  refine (dat0 V c).arrAt_eq_of_covers 4 _ (by decide +kernel) fun t _ y => ?_
  blk_simp
  rw [after0_4, out_csm]
  refine (blockCsm_at _ _ _).trans ?_
  refine congrArg₂ chunk (funext fun d => ?_) (funext fun s => funext fun d => ?_) <;> blk_ext [iblk0, idx t]

end Cert.KernelIdeal.Score

end
-- ==== Proof.Head.lean ====
/- The attention kernel stores one row per head; the four heads' stores are one function of the head's own blocks. -/
module

public import proofs.«01_k».proof.Proof.Gen.KernelIdeal
public import proofs.«01_k».proof.Proof.Gen.KernelIdeal.Frame

@[expose] public section

set_option maxRecDepth 16384

noncomputable section

namespace Cert.KernelIdeal.Head

open Cert.KernelIdeal Cert.KernelIdeal.Gen
open Idealize.ShloMosaic Idealize.ShloMosaic.TcCoe Idealize.SL.Sem

variable {F : FTy → Type} [FloatOps F] [Named F]

/-- One column of a 64 by 64 array is a slice of it. -/
theorem col_slices (c : ℕ) (h : c < 64) : S64x64.Slices ![0, c] S64x1 := by
  refine ⟨rfl, fun a => ?_⟩
  fin_cases a
  · exact Nat.le_refl 64
  · exact (by simpa using h : c + 1 ≤ 64)

/-- One chunk of the 64 chunks of values is a slice of them. -/
theorem chunk_slices (c : ℕ) (h : c < 64) : S64x64x128.Slices ![c, 0, 0] S1x64x128 := by
  refine ⟨rfl, fun a => ?_⟩
  fin_cases a
  · exact (by simpa using h : c + 1 ≤ 64)
  · exact Nat.le_refl 64
  · exact Nat.le_refl 128

/-- Chunk `c`'s contribution: column `c` of the transposed weights times the chunk's rows of values. -/
def contrib (pt : FVec F S64x64 .f32) (v : FVec F S64x64x128 .f32) (c : ℕ) (h : c < 64) : FVec F S64x128 .f32 :=
  mulf (broadcastTo S64x128 (extractStridedSlice S64x1 ![0, c] pt (col_slices c h)) broadcasts_S64x1_S64x128)
    (shapeCast S64x128 (extractStridedSlice S1x64x128 ![c, 0, 0] v (chunk_slices c h)) shapeCasts_S1x64x128_S64x128)

/-- The contributions of chunks `0` to `c`, added from the left. -/
def chain (pt : FVec F S64x64 .f32) (v : FVec F S64x64x128 .f32) : (c : ℕ) → c < 64 → FVec F S64x128 .f32
  | 0, h => contrib pt v 0 h
  | c + 1, h => addf (chain pt v c (Nat.lt_of_succ_lt h)) (contrib pt v (c + 1) h)

/-- A head's weights, its chunk scores ranked and the unselected chunks at zero. -/
def weights (ts : Vec F S1x1x64x64 .f32) (cs : Vec F S1x1x1x64 .f32) (csm : Vec F S1x1x64x64 .f32) : FVec F S64x64 .f32 :=
  k1_pay4 ts cs csm

/-- The row a head stores. -/
def headOut (ts : Vec F S1x1x64x64 .f32) (cs : Vec F S1x1x1x64 .f32) (csm : Vec F S1x1x64x64 .f32)
    (v : Vec F S1x1x64x64x128 .f32) : FVec F S1x1x1x128 .f32 :=
  shapeCast S1x1x1x128
    (divf (multiReduction .add [0] S128 (chain (k1_pay7 k1_pay2 (weights ts cs csm)) (k1_pay8 v) 63 (by decide))
        0x00000000#32 reduces_S64x128_S128 (.inl rfl) rfl)
      (broadcast S128 (k1_pay6 (k1_pay5 ts cs csm)))) shapeCasts_S128_S1x1x1x128

/-- The stored block with each head's row spelt as `headOut` of that head's blocks. -/
def block (x0 : Vec F S1x4x64x64 .f32) (x1 : Vec F S1x4x1x64 .f32) (x2 : Vec F S1x4x64x64 .f32)
    (x3 : Vec F S1x4x64x64x128 .f32) : Vec F S1x4x1x128 .f32 :=
  View.canon [⟨r1_15, headOut (View.ld x0 r1_12) (View.ld x1 r1_13) (View.ld x2 r1_12) (View.ld x3 r1_14)⟩,
    ⟨r1_11, headOut (View.ld x0 r1_8) (View.ld x1 r1_9) (View.ld x2 r1_8) (View.ld x3 r1_10)⟩,
    ⟨r1_7, headOut (View.ld x0 r1_4) (View.ld x1 r1_5) (View.ld x2 r1_4) (View.ld x3 r1_6)⟩,
    ⟨r1_3, headOut (View.ld x0 r1_0) (View.ld x1 r1_1) (View.ld x2 r1_0) (View.ld x3 r1_2)⟩]

/-- What the attention kernel's body leaves in its output block is `block` of its input blocks. -/
theorem out_eq (x0 : Vec F S1x4x64x64 .f32) (x1 : Vec F S1x4x1x64 .f32) (x2 : Vec F S1x4x64x64 .f32)
    (x3 : Vec F S1x4x64x64x128 .f32) : out1_4 x0 x1 x2 x3 = block x0 x1 x2 x3 := rfl

end Cert.KernelIdeal.Head

end
-- ==== Proof.HeadAt.lean ====
/- A head's stored row, read at an index. -/
module

public import proofs.«01_k».proof.Proof.Head
public import proofs.«01_k».proof.Proof.Ind
public import Idealize.ShloMosaic.Lib.Pointwise
public import Idealize.ShloMosaic.Lib.Pipeline.ValueKit

@[expose] public section

set_option maxRecDepth 16384

noncomputable section

namespace Cert.KernelIdeal.Head

open Cert.KernelIdeal Cert.KernelIdeal.Gen
open Idealize.ShloMosaic Idealize.ShloMosaic.TcCoe Idealize.SL.Sem

/-- A chunk's contribution at a position. -/
theorem contrib_at (pt : FVec Ideal S64x64 .f32) (v : FVec Ideal S64x64x128 .f32) (c : ℕ) (h : c < 64) (s : Fin 64) (d : Fin 128) :
    contrib pt v c h (ix2 s d) = pt (ix2 s ⟨c, h⟩) * v (ix3 ⟨c, h⟩ s d) := by
  pointwise [contrib]

/-- The chunks' contributions up to chunk `c`, as a sum. -/
theorem chain_at (pt : FVec Ideal S64x64 .f32) (v : FVec Ideal S64x64x128 .f32) (s : Fin 64) (d : Fin 128) (c : ℕ) (h : c < 64) :
    chain pt v c h (ix2 s d)
      = ∑ j : Fin (c + 1), pt (ix2 s ⟨j, lt_of_lt_of_le j.isLt h⟩) * v (ix3 ⟨j, lt_of_lt_of_le j.isLt h⟩ s d) := by
  induction c with
  | zero => rw [Fin.sum_univ_one]; exact contrib_at pt v 0 h s d
  | succ c ih =>
    rw [Fin.sum_univ_castSucc]
    refine Eq.trans (b := chain pt v c (Nat.lt_of_succ_lt h) (ix2 s d) + contrib pt v (c + 1) h (ix2 s d)) rfl ?_
    rw [ih (Nat.lt_of_succ_lt h), contrib_at]
    rfl

/-- A head's weight at chunk `c`, position `s`: the exponential of the score less the greatest score, or zero when the
    chunk's rank is not below thirty-two. -/
theorem weights_at (ts : Vec Ideal S1x1x64x64 .f32) (cs : Vec Ideal S1x1x1x64 .f32) (csm : Vec Ideal S1x1x64x64 .f32)
    (hcsm : ∀ c j : Fin 64, csm (ix4 0 0 c j) = cs (ix4 0 0 0 j)) (c s : Fin 64) :
    weights ts cs csm (ix2 c s)
      = Ideal.exp (ts (ix4 0 0 c s) - Finset.univ.fold max ⊥ (fun x : Fin 64 × Fin 64 => ts (ix4 0 0 x.1 x.2)))
        * (if Rank.rank (fun j : Fin 64 => cs (ix4 0 0 0 j)) c < 32 then (1 : EReal) else 0) := by
  pointwise [weights, k1_pay4, k1_pay2, k1_pay3]
  simp only [Ind.cmpi_eq, Ind.cmpi_ne, Ind.cmpi_slt, Ind.andi_bit, Ind.ori_bit, Ind.sitofp_bit, hcsm]
  have hsel (x : Fin 64) : (∑ y : Fin 64, (if decide (c = y) = true then (1 : EReal) else 0) * cs (ix4 0 0 0 y)) = cs (ix4 0 0 0 c) := by
    simp only [decide_eq_true_eq, ite_mul, one_mul, zero_mul]
    exact Fintype.sum_ite_eq c _
  have hrank : (∑ x : Fin 64, if ((decide (cs (ix4 0 0 0 c) < cs (ix4 0 0 0 x)) ||
        decide (cs (ix4 0 0 0 x) = cs (ix4 0 0 0 c)) && decide (x < c)) && decide (x ≠ c)) = true then (1 : EReal) else 0)
      = ((Rank.rank (fun j : Fin 64 => cs (ix4 0 0 0 j)) c : ℝ) : EReal) := by
    rw [Ind.sum_ite_one, Rank.rank]
    congr 3
    refine Finset.filter_congr fun x _ => ?_
    rw [← Rank.before_ne]
    rfl
  rw [hsel c] at *
  rw [hrank, Ind.ofBits_bot, Ind.ofBits_32]
  simp only [decide_eq_true_eq]
  rw [show ((32 : ℝ) : EReal) = (((32 : ℕ) : ℝ) : EReal) by norm_num]
  simp only [Ind.count_lt]

/-- The divisor is the sum of all weights. -/
theorem denom_at (ts : Vec Ideal S1x1x64x64 .f32) (cs : Vec Ideal S1x1x1x64 .f32) (csm : Vec Ideal S1x1x64x64 .f32) :
    k1_pay6 (k1_pay5 ts cs csm) = ∑ c : Fin 64, ∑ s : Fin 64, weights ts cs csm (ix2 c s) := by
  pointwise [k1_pay6, k1_pay5]
  rfl

/-- The product with the identity array is the transpose. -/
theorem pt_at (p : FVec Ideal S64x64 .f32) (s c : Fin 64) :
    k1_pay7 k1_pay2 p (ix2 s c) = p (ix2 c s) := by
  pointwise [k1_pay7, k1_pay2]
  simp only [Ind.cmpi_eq, Ind.sitofp_bit]
  simp only [decide_eq_true_eq, mul_ite, mul_one, mul_zero]
  exact Fintype.sum_ite_eq' c _

/-- The row a head stores, at an entry: the weighted sum of the values over the sum of the weights. -/
theorem headOut_at (ts : Vec Ideal S1x1x64x64 .f32) (cs : Vec Ideal S1x1x1x64 .f32) (csm : Vec Ideal S1x1x64x64 .f32)
    (v : Vec Ideal S1x1x64x64x128 .f32) (d : Fin 128) :
    headOut ts cs csm v (ix4 0 0 0 d)
      = Ideal.div (∑ s : Fin 64, ∑ c : Fin 64, weights ts cs csm (ix2 c s) * v (ix5 0 0 c s d))
          (∑ c : Fin 64, ∑ s : Fin 64, weights ts cs csm (ix2 c s)) := by
  pointwise [headOut, k1_pay8]
  rw [denom_at]
  refine congrArg (fun z => Ideal.div z _) (Finset.sum_congr rfl fun s _ => ?_)
  rw [chain_at]
  refine Finset.sum_congr rfl fun c _ => ?_
  rw [pt_at]
  pointwise

/-- The weight of a position: the exponential of its score less the greatest score, or zero when the chunk's rank is
    not below thirty-two. -/
def weight (ts : Fin 64 → Fin 64 → EReal) (cs : Fin 64 → EReal) (c s : Fin 64) : EReal :=
  Ideal.exp (ts c s - Finset.univ.fold max ⊥ (fun x : Fin 64 × Fin 64 => ts x.1 x.2))
    * (if Rank.rank cs c < 32 then (1 : EReal) else 0)

/-- The weighted average of the values. -/
def average (ts : Fin 64 → Fin 64 → EReal) (cs : Fin 64 → EReal) (v : Fin 64 → Fin 64 → EReal) : EReal :=
  Ideal.div (∑ s, ∑ c, weight ts cs c s * v c s) (∑ c, ∑ s, weight ts cs c s)

/-- The row a head stores, at an index, when the repeated chunk scores are the chunk scores. -/
theorem headOut_avg (ts : Vec Ideal S1x1x64x64 .f32) (cs : Vec Ideal S1x1x1x64 .f32) (csm : Vec Ideal S1x1x64x64 .f32)
    (v : Vec Ideal S1x1x64x64x128 .f32) (hcsm : ∀ c j : Fin 64, csm (ix4 0 0 c j) = cs (ix4 0 0 0 j)) (x : S1x1x1x128.Idx) :
    headOut ts cs csm v x = average (fun c s => ts (ix4 0 0 c s)) (fun c => cs (ix4 0 0 0 c)) (fun c s => v (ix5 0 0 c s (x 3))) := by
  obtain ⟨d, rfl⟩ : ∃ d : Fin 128, x = ix4 0 0 0 d := ⟨x 3, by blk_ext⟩
  have h := headOut_at ts cs csm v d
  simp only [weights_at ts cs csm hcsm] at h
  generalize headOut ts cs csm v (ix4 0 0 0 d) = z at h ⊢
  subst h
  rfl

/-- The attention block at an index, when the repeated chunk scores are the chunk scores. -/
theorem block_at (x0 : Vec Ideal S1x4x64x64 .f32) (x1 : Vec Ideal S1x4x1x64 .f32) (x2 : Vec Ideal S1x4x64x64 .f32)
    (x3 : Vec Ideal S1x4x64x64x128 .f32) (hcsm : ∀ (g : Fin 4) (c j : Fin 64), x2 (ix4 0 g c j) = x1 (ix4 0 g 0 j)) (y : S1x4x1x128.Idx) :
    block x0 x1 x2 x3 y
      = average (fun c s => x0 (ix4 0 (y 1) c s)) (fun c => x1 (ix4 0 (y 1) 0 c)) (fun c s => x3 (ix5 0 (y 1) c s (y 3))) := by
  unfold block
  canon_tiles x h
  all_goals
    rw [headOut_avg _ _ _ _ (fun c j => by pointwise; exact hcsm _ c j)]
    congr 1
    · funext c s; pointwise; blk_ext
    · funext c; pointwise; blk_ext
    · funext c s; pointwise; blk_ext

end Cert.KernelIdeal.Head

end
-- ==== Proof.HeadArr.lean ====
/- What the attention kernel leaves in its result array, from the score arrays and the values it is given. -/
module

public import proofs.«01_k».proof.Proof.HeadAt

@[expose] public section

set_option maxRecDepth 16384

noncomputable section

namespace Cert.KernelIdeal.Head

open Cert.KernelIdeal Cert.KernelIdeal.Gen
open Idealize.ShloMosaic Idealize.ShloMosaic.TcCoe Idealize.SL.Sem

variable (V : (c : Dev nD) → (b : Ref sig .tc) → Buf (Elt Ideal) ((c : Thread nD τ).loc b))

/-- Each window's block at a point: the batch entry, and the group of four heads. -/
theorem idx : ∀ t : Fin cfg1.N,
    win1_0.index t = ![t.val / 4, t.val % 4, 0, 0] ∧ win1_1.index t = ![t.val / 4, t.val % 4, 0, 0]
      ∧ win1_2.index t = ![t.val / 4, t.val % 4, 0, 0] ∧ win1_3.index t = ![t.val / 4, t.val % 4, 0, 0, 0]
      ∧ win1_4.index t = ![t.val / 4, t.val % 4, 0, 0] :=
  (by decide +kernel : ∀ t : Fin grid1.N, _)

/-- The averages of all batch entries and heads. -/
def arrOut (TS : FVec Ideal S8x16x64x64 .f32) (CS : FVec Ideal S8x16x1x64 .f32) (X : FVec Ideal S8x16x64x64x128 .f32) :
    FVec Ideal S8x16x1x128 .f32 := fun i =>
  average (fun c s => TS (ix4 (i 0) (i 1) c s)) (fun c => CS (ix4 (i 0) (i 1) 0 c)) (fun c s => X (ix5 (i 0) (i 1) c s (i 3)))

/-- The repeated chunk scores are the chunk scores, entry by entry. -/
def Repeats (CSM : FVec Ideal S8x16x64x64 .f32) (CS : FVec Ideal S8x16x1x64 .f32) : Prop :=
  ∀ (b : Fin 8) (g : Fin 16) (c j : Fin 64), CSM (ix4 b g c j) = CS (ix4 b g 0 j)

/-- The result array after the attention kernel. -/
theorem out_arr (c : Dev nD) (hcsm : Repeats (V c main_call0_v3_2) (V c main_call0_v3_1)) :
    (dat1 V c).arrAt 4 cfg1.N = arrOut (V c main_call0_v3_0) (V c main_call0_v3_1) (V c main_call0_v1) := by
  refine (dat1 V c).arrAt_eq_of_covers 4 _ (by decide +kernel) fun t _ y => ?_
  blk_simp
  rw [after1_4, out_eq]
  refine (block_at _ _ _ _ (fun g c' j => ?_) _).trans ?_
  · have ht : t.val < 32 := lt_of_lt_of_eq t.isLt (by decide)
    exact ((by blk_ext [iblk1, idx t] : iblk1 V c 2 t (ix4 0 g c' j)
        = V c main_call0_v3_2 (ix4 (⟨t.val / 4, by omega⟩ : Fin 8) (⟨t.val % 4 * 4 + g.val, by omega⟩ : Fin 16) c' j)).trans
      (hcsm _ _ c' j)).trans (by blk_ext [iblk1, idx t])
  refine congr (congr (congrArg average (funext fun c' => funext fun s => ?_)) (funext fun c' => ?_)) (funext fun c' => funext fun s => ?_) <;>
    blk_ext [iblk1, idx t]

end Cert.KernelIdeal.Head

end
-- ==== Proof.KernelAt.lean ====
/- The kernel's result at an index, in terms of its three argument arrays. -/
module

public import proofs.«01_k».proof.Proof.ScoreArr
public import proofs.«01_k».proof.Proof.HeadArr

@[expose] public section

set_option maxRecDepth 16384

noncomputable section

namespace Cert.KernelIdeal.Value

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The position of token `s` of chunk `c` among all tokens. -/
def at64 (c s : Fin 64) : Fin 4096 := ⟨c.val * 64 + s.val, by omega⟩

/-- A reshaped array of keys or values, cut into chunks. -/
def chunked (K : FVec Ideal S8x16x4096x128 .f32) : FVec Ideal S8x16x64x64x128 .f32 :=
  shapeCast S8x16x64x64x128 K shapeCasts_S8x16x4096x128_S8x16x64x64x128

/-- The chunked array at an index. -/
theorem chunked_at (K : FVec Ideal S8x16x4096x128 .f32) (b : Fin 8) (g : Fin 16) (c s : Fin 64) (d : Fin 128) :
    chunked K (ix5 b g c s d) = K (ix4 b g (at64 c s) d) := by
  pointwise [chunked]
  blk_ext [at64]

/-- The query array with a unit axis. -/
def queried (Q : FVec Ideal S8x16x128 .f32) : FVec Ideal S8x16x1x128 .f32 :=
  shapeCast S8x16x1x128 Q shapeCasts_S8x16x128_S8x16x1x128

/-- The query array with a unit axis, at an index. -/
theorem queried_at (Q : FVec Ideal S8x16x128 .f32) (b : Fin 8) (g : Fin 16) (d : Fin 128) :
    queried Q (ix4 b g 0 d) = Q (ix3 b g d) := by
  pointwise [queried]

/-- The queries the score kernel is given. -/
theorem entry_q (c : Dev nD) : V1 m ρ c main_call0_v2 = queried (m ((c : Thread nD τ).loc main_arg0)) := by
  show StableHlo.after hostOps0 _ _ = _
  simp only [hostOps0, StableHlo.TRef.reshape, StableHlo.TRef.toBuf, StableHlo.TRef.ofBuf, cast_eq]
  after_results
  rfl

/-- The keys the score kernel is given. -/
theorem entry_k (c : Dev nD) : V1 m ρ c main_call0_v0 = chunked (m ((c : Thread nD τ).loc main_arg1)) := by
  show StableHlo.after hostOps0 _ _ = _
  simp only [hostOps0, StableHlo.TRef.reshape, StableHlo.TRef.toBuf, StableHlo.TRef.ofBuf, cast_eq]
  after_results
  rfl

/-- The values the attention kernel is given. -/
theorem entry_v (c : Dev nD) : V2 m ρ c main_call0_v1 = chunked (m ((c : Thread nD τ).loc main_arg2)) := by
  refine (W2_of m ρ c main_call0_v1 (by decide)).trans ?_
  show StableHlo.after hostOps0 _ _ = _
  simp only [hostOps0, StableHlo.TRef.reshape, StableHlo.TRef.toBuf, StableHlo.TRef.ofBuf, cast_eq]
  after_results
  rfl

/-- The token scores the attention kernel is given. -/
theorem entry_ts (c : Dev nD) : V2 m ρ c main_call0_v3_0
    = Score.arrTs (queried (m ((c : Thread nD τ).loc main_arg0))) (chunked (m ((c : Thread nD τ).loc main_arg1))) := by
  rw [← entry_q m ρ c, ← entry_k m ρ c]
  exact (W2_arr m ρ c 2).trans (Score.ts_eq (V1 m ρ) c)

/-- The chunk scores the attention kernel is given. -/
theorem entry_cs (c : Dev nD) : V2 m ρ c main_call0_v3_1
    = Score.arrCs (queried (m ((c : Thread nD τ).loc main_arg0))) (chunked (m ((c : Thread nD τ).loc main_arg1))) := by
  rw [← entry_q m ρ c, ← entry_k m ρ c]
  exact (W2_arr m ρ c 3).trans (Score.cs_eq (V1 m ρ) c)

/-- The repeated chunk scores the attention kernel is given. -/
theorem entry_csm (c : Dev nD) : V2 m ρ c main_call0_v3_2
    = Score.arrCsm (queried (m ((c : Thread nD τ).loc main_arg0))) (chunked (m ((c : Thread nD τ).loc main_arg1))) := by
  rw [← entry_q m ρ c, ← entry_k m ρ c]
  exact (W2_arr m ρ c 4).trans (Score.csm_eq (V1 m ρ) c)

/-- The attention kernel's result array. -/
theorem out_eq (c : Dev nD) : W3 m ρ c (Proc.devRef .tc main_call0_v4)
    = Head.arrOut (Score.arrTs (queried (m ((c : Thread nD τ).loc main_arg0))) (chunked (m ((c : Thread nD τ).loc main_arg1))))
        (Score.arrCs (queried (m ((c : Thread nD τ).loc main_arg0))) (chunked (m ((c : Thread nD τ).loc main_arg1))))
        (chunked (m ((c : Thread nD τ).loc main_arg2))) := by
  rw [← entry_ts m ρ c, ← entry_cs m ρ c, ← entry_v m ρ c]
  refine (W3_arr m ρ c 4).trans (Head.out_arr (V2 m ρ) c ?_)
  rw [entry_cs, entry_csm]
  intro b g c' j
  rfl

/-- The kernel's result over arrays of queries, keys and values. -/
def result (Q : FVec Ideal S8x16x128 .f32) (K X : FVec Ideal S8x16x4096x128 .f32) : FVec Ideal S8x16x128 .f32 :=
  shapeCast S8x16x128 (Head.arrOut (Score.arrTs (queried Q) (chunked K)) (Score.arrCs (queried Q) (chunked K)) (chunked X))
    shapeCasts_S8x16x1x128_S8x16x128

/-- The kernel's result array is `result` of its arguments. -/
theorem kernel_eq (c : Dev nD) : W4 m ρ c (Proc.devRef .tc main_v0)
    = result (m ((c : Thread nD τ).loc main_arg0)) (m ((c : Thread nD τ).loc main_arg1)) (m ((c : Thread nD τ).loc main_arg2)) := by
  unfold result
  rw [← out_eq m ρ c]
  show StableHlo.after hostOps2 _ _ = _
  simp only [hostOps2, StableHlo.TRef.reshape, StableHlo.TRef.toBuf, StableHlo.TRef.ofBuf, cast_eq]
  after_results
  rfl

/-- The kernel's result at an index: the average, over the tokens, of a head's values. -/
theorem result_at (Q : FVec Ideal S8x16x128 .f32) (K X : FVec Ideal S8x16x4096x128 .f32) (b : Fin 8) (g : Fin 16) (d : Fin 128) :
    result Q K X (ix3 b g d)
      = Head.average (fun c s => Score.token (fun d => Q (ix3 b g d)) (fun d => K (ix4 b g (at64 c s) d)))
          (fun c => Score.chunk (fun d => Q (ix3 b g d)) (fun s d => K (ix4 b g (at64 c s) d)))
          (fun c s => X (ix4 b g (at64 c s) d)) := by
  refine Eq.trans (b := Head.arrOut (Score.arrTs (queried Q) (chunked K)) (Score.arrCs (queried Q) (chunked K)) (chunked X) (ix4 b g 0 d)) ?_ ?_
  · pointwise [result]
  · simp only [← chunked_at, ← queried_at]
    rfl

end Cert.KernelIdeal.Value

end
-- ==== Proof.RefAt.lean ====
/- The reference's result at an index, stage by stage, in terms of its three argument arrays. -/
module

public import proofs.«01_k».proof.Proof.Score
public import proofs.«01_k».proof.Proof.Gen.ReferenceIdeal.Run
public import Idealize.ShloMosaic.Lib.Pointwise
public import Idealize.ShloMosaic.Lib.Pipeline.ValueKit

@[expose] public section

set_option maxRecDepth 16384

noncomputable section

namespace Cert.ReferenceIdeal.At

open Cert.ReferenceIdeal Cert.ReferenceIdeal.Gen
open Idealize.ShloMosaic Idealize.ShloMosaic.TcCoe Idealize.SL.Sem

section Stages
variable {F : FTy → Type} [FloatOps F]

/-- The chunk scores. -/
def scores (Q : FVec F S8x16x128 .f32) (K : FVec F S8x16x4096x128 .f32) : FVec F S8x16x64 .f32 :=
  maximumf
    (Host.dotGeneral dot_S8x16x128_S8x16x64x128_S8x16x64_2_3_n_2_01_01 none Q
      (Host.reduce FloatOps.maximumf (shapeCast S8x16x64x64x128 K shapeCasts_S8x16x4096x128_S8x16x64x64x128)
        (constant S_ .f32 0xFF800000#32) reducesTo_S8x16x64x64x128_S8x16x64x128_d3 h_S_))
    (Host.dotGeneral dot_S8x16x128_S8x16x64x128_S8x16x64_2_3_n_2_01_01 none Q
      (Host.reduce FloatOps.minimumf (shapeCast S8x16x64x64x128 K shapeCasts_S8x16x4096x128_S8x16x64x64x128)
        (constant S_ .f32 0x7F800000#32) reducesTo_S8x16x64x64x128_S8x16x64x128_d3 h_S_))

/-- The selected chunks' numbers. -/
def selected (C : FVec F S8x16x64 .f32) : IVec S8x16x32 32 :=
  (Host.topK S8x16x32 2 (FloatOps.cmpfTotal .gt) C sliceFits_S8x16x64_S8x16x32).2

/-- How often each chunk is among the selected ones. -/
def mask (I : IVec S8x16x32 32) : FVec F S8x16x64 .f32 :=
  Host.reduceAdd (uitofp .f32 (cmpi .eq
      (broadcastInDim S8x16x32x64 ![0, 1, 2, 3] bcast_S8x16x32x1_S8x16x32x64_0_1_2_3
        (broadcastInDim S8x16x32x1 ![0, 1, 2] bcast_S8x16x32_S8x16x32x1_0_1_2 I))
      (broadcastInDim S8x16x32x64 ![0, 1, 2, 3] bcast_S1x1x1x64_S8x16x32x64_0_1_2_3 (iotaInDim S1x1x1x64 32 3))))
    (constant S_ .f32 0x00000000#32) reducesTo_S8x16x32x64_S8x16x64_d2 h_S_

/-- The tokens' scores, minus infinity outside the selected chunks. -/
def masked (Q : FVec F S8x16x128 .f32) (K : FVec F S8x16x4096x128 .f32) (M : FVec F S8x16x64 .f32) : FVec F S8x16x4096 .f32 :=
  select (cmpf .ogt (shapeCast S8x16x4096 (broadcastInDim S8x16x64x64 ![0, 1, 2] bcast_S8x16x64_S8x16x64x64_0_1_2 M)
        shapeCasts_S8x16x64x64_S8x16x4096)
      (broadcastInDim S8x16x4096 ![] bcast_S_S8x16x4096 (constant S_ .f32 0x00000000#32)))
    (mulf (Host.dotGeneral dot_S8x16x128_S8x16x4096x128_S8x16x4096_2_3_n_2_01_01 none Q K)
      (broadcastInDim S8x16x4096 ![] bcast_S_S8x16x4096
        (Host.divf (constant S_ .f32 0x3F800000#32) (Host.sqrt (constant S_ .f32 0x43000000#32)))))
    (broadcastInDim S8x16x4096 ![] bcast_S_S8x16x4096 (id (constant S_ .f32 0xFF800000#32)))

/-- The greatest of a row of scores. -/
def greatest (Z : FVec F S8x16x4096 .f32) : FVec F S8x16 .f32 :=
  maximumf (broadcastInDim S8x16 ![] bcast_S_S8x16 (constant S_ .f32 0xFF800000#32))
    (Host.reduce FloatOps.maximumf Z (constant S_ .f32 0xFF800000#32) reducesTo_S8x16x4096_S8x16_d2 h_S_)

/-- The exponentials of a row of scores less their greatest. -/
def expd (Z : FVec F S8x16x4096 .f32) : FVec F S8x16x4096 .f32 :=
  Host.exp (subf Z (broadcastInDim S8x16x4096 ![0, 1, 2] bcast_S8x16x1_S8x16x4096_0_1_2
    (broadcastInDim S8x16x1 ![0, 1] bcast_S8x16_S8x16x1_0_1 (greatest Z))))

/-- A row of exponentials divided by its sum and averaged against the values. -/
def averaged (E : FVec F S8x16x4096 .f32) (X : FVec F S8x16x4096x128 .f32) : FVec F S8x16x128 .f32 :=
  Host.dotGeneral dot_S8x16x4096_S8x16x4096x128_S8x16x128_2_2_n_3_01_01 none
    (Host.divf E (broadcastInDim S8x16x4096 ![0, 1, 2] bcast_S8x16x1_S8x16x4096_0_1_2
      (broadcastInDim S8x16x1 ![0, 1] bcast_S8x16_S8x16x1_0_1
        (Host.reduceAdd E (constant S_ .f32 0x00000000#32) reducesTo_S8x16x4096_S8x16_d2 h_S_)))) X

/-- The reference over arrays of queries, keys and values. -/
def result (Q : FVec F S8x16x128 .f32) (K X : FVec F S8x16x4096x128 .f32) : FVec F S8x16x128 .f32 :=
  averaged (expd (masked Q K (mask (selected (scores Q K))))) X

/-- The reference's term is `result` of its arguments. -/
theorem res_eq (m : (ℓ : Loc nD τ sig) → Buf (Elt F) ℓ) (c : Dev nD) :
    Cert.ReferenceIdeal.Value.res_out0 m c = result (m ((c.tc : Thread nD τ).loc main_arg0))
      (m ((c.tc : Thread nD τ).loc main_arg1)) (m ((c.tc : Thread nD τ).loc main_arg2)) := rfl

end Stages

open Cert.KernelIdeal.Score (token chunk)

/-- The reference's scale is the reciprocal of the square root of 128. -/
theorem scale_eq : Ideal.div 1 (Ideal.sqrt (Ideal.ofBits .f32 0x43000000#32)) = ((1 / Real.sqrt 128 : ℝ) : EReal) := by
  have h : Real.sqrt 128 ≠ 0 := (Real.sqrt_pos.mpr (by norm_num)).ne'
  rw [Ind.ofBits_128]
  rw [show Ideal.sqrt ((128 : ℝ) : EReal) = ((Real.sqrt 128 : ℝ) : EReal) from if_neg (by norm_num), Ideal.div_coe h, one_mul]

/-- The chunk scores at an index. -/
theorem scores_at (Q : FVec Ideal S8x16x128 .f32) (K : FVec Ideal S8x16x4096x128 .f32) (b : Fin 8) (g : Fin 16) (c : Fin 64) :
    scores Q K (ix3 b g c)
      = chunk (fun d => Q (ix3 b g d)) (fun s d => K (ix4 b g (⟨c.val * 64 + s.val, by omega⟩ : Fin 4096) d)) := by
  pointwise [scores]
  rw [Ind.ofBits_bot, Ind.ofBits_top]
  unfold chunk
  congr 1 <;> exact Finset.sum_congr rfl fun d _ => mul_comm _ _

/-- The number of the chunk selected at place `r` is the one a stable descending sort by score puts there. -/
theorem selected_at (C : FVec Ideal S8x16x64 .f32) (b : Fin 8) (g : Fin 16) (r : Fin 32) :
    selected C (ix3 b g r)
      = BitVec.ofNat 32 (sortedFrom (Rank.before fun c : Fin 64 => C (ix3 b g c)) (r.castLE (by decide))) := by
  have hal (k : Fin 64) (r : Fin 64) : (ix3 b g r : S8x16x64.Idx).along 2 k = ix3 b g k := by
    funext a
    fin_cases a <;> rfl
  have hgt (x y : EReal) : (FloatOps.cmpfTotal (F := Ideal) (φ := .f32) .gt x y == 1#1) = decide (y < x) := by
    show (BitVec.ofBool (decide (y < x)) == 1#1) = _
    cases decide (y < x) <;> rfl
  unfold selected Host.topK Host.sort2
  pointwise
  simp only [hal, hgt]
  rw [← Rank.sortedFrom_key]
  rfl

/-- How often a chunk is among the selected ones, at an index. -/
theorem mask_at (I : IVec S8x16x32 32) (b : Fin 8) (g : Fin 16) (c : Fin 64) :
    mask (F := Ideal) I (ix3 b g c) = ∑ r : Fin 32, if I (ix3 b g r) = BitVec.ofNat 32 c then (1 : EReal) else 0 := by
  pointwise [mask]
  refine Finset.sum_congr rfl fun r _ => ?_
  refine (Ind.uitofp_bit (decide (I (ix3 b g r) = BitVec.ofNat 32 c))).trans ?_
  simp only [decide_eq_true_eq]

/-- A chunk occurs among the selected ones exactly when its rank is below thirty-two. -/
theorem mask_pos (C : FVec Ideal S8x16x64 .f32) (b : Fin 8) (g : Fin 16) (c : Fin 64) :
    0 < mask (F := Ideal) (selected C) (ix3 b g c) ↔ Rank.rank (fun c : Fin 64 => C (ix3 b g c)) c < 32 := by
  have hinj (i j : Fin 64) : BitVec.ofNat 32 i = BitVec.ofNat 32 j ↔ i = j := by
    constructor
    · intro h
      have h' := congrArg BitVec.toNat h
      rw [BitVec.toNat_ofNat, BitVec.toNat_ofNat, Nat.mod_eq_of_lt (by omega), Nat.mod_eq_of_lt (by omega)] at h'
      exact Fin.ext h'
    · rintro rfl; rfl
  rw [mask_at, Ind.sum_ite_one, ← Rank.among_first (fun c : Fin 64 => C (ix3 b g c)) (by decide : 32 ≤ 64) c,
    ← EReal.coe_zero, EReal.coe_lt_coe_iff, Nat.cast_pos, Finset.card_pos]
  simp only [selected_at, hinj]
  constructor
  · rintro ⟨r, hr⟩
    exact ⟨r, (Finset.mem_filter.mp hr).2⟩
  · rintro ⟨r, hr⟩
    exact ⟨r, Finset.mem_filter.mpr ⟨Finset.mem_univ r, hr⟩⟩

/-- A token's score at an index, minus infinity outside the selected chunks. -/
theorem masked_at (Q : FVec Ideal S8x16x128 .f32) (K : FVec Ideal S8x16x4096x128 .f32) (M : FVec Ideal S8x16x64 .f32)
    (b : Fin 8) (g : Fin 16) (t : Fin 4096) :
    masked Q K M (ix3 b g t) = if 0 < M (ix3 b g (⟨t.val / 64, by omega⟩ : Fin 64))
      then token (fun d => Q (ix3 b g d)) (fun d => K (ix4 b g t d)) else ⊥ := by
  pointwise [masked]
  rw [scale_eq]
  refine ite_congr rfl (fun _ => ?_) (fun _ => Ind.ofBits_bot)
  unfold token
  congr 1
  exact Finset.sum_congr rfl fun d _ => mul_comm _ _

/-- The greatest of a row at an index. -/
theorem greatest_at (Z : FVec Ideal S8x16x4096 .f32) (b : Fin 8) (g : Fin 16) :
    greatest Z (ix2 b g) = Finset.univ.fold max ⊥ (fun t : Fin 4096 => Z (ix3 b g t)) := by
  pointwise [greatest]
  rw [Ind.ofBits_bot]
  exact max_eq_right bot_le

/-- The exponentials at an index. -/
theorem expd_at (Z : FVec Ideal S8x16x4096 .f32) (b : Fin 8) (g : Fin 16) (t : Fin 4096) :
    expd Z (ix3 b g t) = Ideal.exp (Z (ix3 b g t) - greatest Z (ix2 b g)) := by
  pointwise [expd]

/-- The average at an index. -/
theorem averaged_at (E : FVec Ideal S8x16x4096 .f32) (X : FVec Ideal S8x16x4096x128 .f32) (b : Fin 8) (g : Fin 16) (d : Fin 128) :
    averaged E X (ix3 b g d)
      = ∑ t : Fin 4096, Ideal.div (E (ix3 b g t)) (∑ t : Fin 4096, E (ix3 b g t)) * X (ix4 b g t d) := by
  pointwise [averaged]

end Cert.ReferenceIdeal.At

end
-- ==== Proof.PreAt.lean ====
/- What the precondition says: every query and every key is a real number. -/
module

public import proofs.«01_k».proof.Proof.Ind
public import proofs.«01_k».proof.Pre_finite_qk
public import Idealize.ShloMosaic.Lib.Pointwise

@[expose] public section

set_option maxRecDepth 16384

noncomputable section

namespace Cert.Pre_finite_qk

open Idealize.ShloMosaic

variable [Facts]

/-- An extended real whose absolute value is below plus infinity is a real number. -/
theorem real_of_abs (x : EReal) (h : max x (-x) < ⊤) : ∃ r : ℝ, x = r := by
  rw [max_lt_iff] at h
  refine ⟨x.toReal, (EReal.coe_toReal h.1.ne fun e => ?_).symm⟩
  rw [e] at h
  exact absurd h.2 (by simp)

/-- A bit that is one holds. -/
theorem bit_true (z : Bool) (h : BitVec.ofBool z = 1#1) : z = true := by
  cases z
  · exact absurd h (by decide)
  · rfl

/-- Where the precondition holds, the query and the key are real numbers. -/
theorem real_at (Q : FVec Ideal S8x16x128 .f32) (K X : FVec Ideal S8x16x4096x128 .f32) (h : fn Q K X = fun _ => 1#1)
    (b : Fin 8) (g : Fin 16) (t : Fin 4096) (d : Fin 128) :
    (∃ r : ℝ, Q (ix3 b g d) = r) ∧ ∃ r : ℝ, K (ix4 b g t d) = r := by
  have e : fn Q K X (ix4 b g t d) = BitVec.ofBool (decide (max (Q (ix3 b g d)) (-Q (ix3 b g d)) < (⊤ : EReal))
      && decide (max (K (ix4 b g t d)) (-K (ix4 b g t d)) < (⊤ : EReal))) := by
    pointwise [fn]
    rw [Ind.ofBits_top, Ind.andi_bit]
    rfl
  rw [congrFun h] at e
  have e' : (decide (max (Q (ix3 b g d)) (-Q (ix3 b g d)) < (⊤ : EReal))
      && decide (max (K (ix4 b g t d)) (-K (ix4 b g t d)) < (⊤ : EReal))) = true := by
    exact bit_true _ e.symm
  rw [Bool.and_eq_true, decide_eq_true_eq, decide_eq_true_eq] at e'
  exact ⟨real_of_abs _ e'.1, real_of_abs _ e'.2⟩

end Cert.Pre_finite_qk

end
-- ==== Proof.Final.lean ====
/- The value equation: from finite queries and keys, the kernel's result array is the reference's. -/
module

public import proofs.«01_k».proof.Defs
public import proofs.«01_k».proof.Proof.KernelAt
public import proofs.«01_k».proof.Proof.RefAt
public import proofs.«01_k».proof.Proof.PreAt

@[expose] public section

set_option maxRecDepth 16384

noncomputable section

namespace Cert.KernelIdeal.Value

open Cert.KernelIdeal Cert.KernelIdeal.Gen
open Idealize.ShloMosaic Idealize.ShloMosaic.TcCoe Idealize.SL.Sem

/-- The score of a real key against a real query is a real number. -/
theorem token_real (q k : Fin 128 → EReal) (hq : ∀ d, ∃ r : ℝ, q d = r) (hk : ∀ d, ∃ r : ℝ, k d = r) :
    ∃ r : ℝ, Score.token q k = r := by
  choose rq hrq using hq
  choose rk hrk using hk
  refine ⟨(∑ d, rk d * rq d) * (1 / Real.sqrt 128), ?_⟩
  unfold Score.token
  rw [EReal.coe_mul, Softmax.coe_sum]
  simp only [hrq, hrk, EReal.coe_mul]

/-- The kernel's average equals the softmax of the scores with the unselected chunks' sent to minus infinity, when the
    scores are real: `z` the scores, `cs` the chunk scores, `v` the values, `w` the scores by token. -/
theorem average_softmax (z : Fin 64 → Fin 64 → EReal) (hz : ∀ c s, ∃ r : ℝ, z c s = r) (cs : Fin 64 → EReal)
    (v : Fin 64 → Fin 64 → EReal) (w : Fin 4096 → EReal)
    (hw : ∀ c s, w (at64 c s) = if Rank.rank cs c < 32 then z c s else ⊥) :
    Head.average z cs v
      = ∑ c, ∑ s, Ideal.div (Ideal.exp (w (at64 c s) - Finset.univ.fold max ⊥ w))
          (∑ c, ∑ s, Ideal.exp (w (at64 c s) - Finset.univ.fold max ⊥ w)) * v c s := by
  choose r hr using hz
  obtain ⟨c₀, hc₀⟩ := Rank.exists_rank_lt cs (by decide : 0 < 64) (by decide : 0 < 32)
  obtain ⟨M, hM⟩ := Softmax.fold_max_real (fun x : Fin 64 × Fin 64 => z x.1 x.2)
    (fun x => by rw [hr]; exact EReal.coe_ne_top _) (c₀, 0) (r c₀ 0) (hr c₀ 0)
  obtain ⟨M', hM'⟩ := Softmax.fold_max_real w
    (fun t => by
      have ht : t = at64 ⟨t.val / 64, by omega⟩ ⟨t.val % 64, by omega⟩ := Fin.ext (by show t.val = t.val / 64 * 64 + t.val % 64; omega)
      rw [ht, hw, hr]
      split
      · exact EReal.coe_ne_top _
      · exact bot_ne_top)
    (at64 c₀ 0) (r c₀ 0) (by rw [hw, if_pos hc₀, hr])
  unfold Head.average Head.weight
  rw [hM, hM']
  simp only [hw, hr]
  exact Softmax.average_eq r (fun c => Rank.rank cs c < 32) ⟨c₀, hc₀⟩ v M M'

/-- A sum over all tokens, chunk by chunk. -/
theorem sum_tokens (f : Fin 4096 → EReal) : ∑ t, f t = ∑ c : Fin 64, ∑ s : Fin 64, f (at64 c s) :=
  Fin.sum_univ_tiles 64 64 rfl f

/-- From real queries and keys the two results agree at every index. -/
theorem results_eq (Q : FVec Ideal S8x16x128 .f32) (K X : FVec Ideal S8x16x4096x128 .f32)
    (hQ : ∀ b g d, ∃ r : ℝ, Q (ix3 b g d) = r) (hK : ∀ b g t d, ∃ r : ℝ, K (ix4 b g t d) = r)
    (b : Fin 8) (g : Fin 16) (d : Fin 128) :
    Cert.ReferenceIdeal.At.result Q K X (ix3 b g d) = result Q K X (ix3 b g d) := by
  rw [result_at]
  have hw (c s : Fin 64) : Cert.ReferenceIdeal.At.masked Q K (Cert.ReferenceIdeal.At.mask
        (Cert.ReferenceIdeal.At.selected (Cert.ReferenceIdeal.At.scores Q K))) (ix3 b g (at64 c s))
      = if Rank.rank (fun c => Score.chunk (fun d => Q (ix3 b g d)) (fun s d => K (ix4 b g (at64 c s) d))) c < 32
        then Score.token (fun d => Q (ix3 b g d)) (fun d => K (ix4 b g (at64 c s) d)) else ⊥ := by
    have hc : (⟨(at64 c s).val / 64, by have := (at64 c s).isLt; omega⟩ : Fin 64) = c :=
      Fin.ext (by show (c.val * 64 + s.val) / 64 = c.val; omega)
    rw [Cert.ReferenceIdeal.At.masked_at, hc]
    simp only [Cert.ReferenceIdeal.At.mask_pos, Cert.ReferenceIdeal.At.scores_at]
    rfl
  rw [average_softmax _ (fun c s => token_real _ _ (fun d => hQ b g d) (fun d => hK b g _ d)) _ _
    (fun t => Cert.ReferenceIdeal.At.masked Q K (Cert.ReferenceIdeal.At.mask
        (Cert.ReferenceIdeal.At.selected (Cert.ReferenceIdeal.At.scores Q K))) (ix3 b g t)) hw]
  unfold Cert.ReferenceIdeal.At.result
  rw [Cert.ReferenceIdeal.At.averaged_at]
  simp only [Cert.ReferenceIdeal.At.expd_at, Cert.ReferenceIdeal.At.greatest_at]
  rw [sum_tokens, sum_tokens]

/-- The kernel's result array is the reference's term. -/
theorem final [hPre : Cert.Pre_finite_qk.Facts] (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ)
    (hpre : Cert.Pre_KernelIdeal_finite_qk m) (c : Dev nD)
    (h0 : m' ((c.tc : Thread Cert.ReferenceIdeal.nD Cert.ReferenceIdeal.τ).loc Cert.ReferenceIdeal.main_arg0)
      = m ((c.tc : Thread nD τ).loc main_arg0))
    (h1 : m' ((c.tc : Thread Cert.ReferenceIdeal.nD Cert.ReferenceIdeal.τ).loc Cert.ReferenceIdeal.main_arg1)
      = m ((c.tc : Thread nD τ).loc main_arg1))
    (h2 : m' ((c.tc : Thread Cert.ReferenceIdeal.nD Cert.ReferenceIdeal.τ).loc Cert.ReferenceIdeal.main_arg2)
      = m ((c.tc : Thread nD τ).loc main_arg2)) :
    Cert.ReferenceIdeal.Value.res_out0 m' c = W4 m ρ c (Proc.devRef .tc main_v0) := by
  refine (Cert.ReferenceIdeal.At.res_eq m' c).trans (Eq.trans ?_ (kernel_eq m ρ c).symm)
  rw [h0, h1, h2]
  have hr := Cert.Pre_finite_qk.real_at _ _ _ (hpre c)
  refine funext fun (i : S8x16x128.Idx) => ?_
  obtain ⟨b, g, d, rfl⟩ : ∃ (b : Fin 8) (g : Fin 16) (d : Fin 128), i = ix3 b g d := ⟨i 0, i 1, i 2, by blk_ext⟩
  exact results_eq _ _ _ (fun b g d => (hr b g 0 d).1) (fun b g t d => (hr b g t d).2) b g d

end Cert.KernelIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Final
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The shape relations the precondition's operations take. -/
theorem pre_facts : Cert.Pre_finite_qk.Facts where
  bcast_S_S8x16x128 := by decide
  bcast_S8x16x128_S8x16x1x128_0_1_3 := by decide
  bcast_S_S8x16x4096x128 := by decide
  bcast_S8x16x1x128_S8x16x4096x128_0_1_2_3 := by decide

/-- The reference runs, its arguments end as launched, every counter at zero: it declares no semaphore. -/
theorem reference_frame : Cert.quiescent_ReferenceIdeal (hReferenceIdeal := Cert.ReferenceIdeal.Gen.facts) := fun m g _ =>
  (θ_run _ _ _).mono (fun r h => ⟨fun c => (h c).2, Idealize.ShloMosaic.sem_eq_zero_of_no_sems (by decide) r.2⟩)
    (Cert.ReferenceIdeal.Value.run m g)

/-- From memories agreeing on the arguments, finite in the first two, kernel and reference end with equal results. -/
theorem algebraic : Cert.algebraic_KernelIdeal_ReferenceIdeal_pre_finite_qk (hKernelIdeal := Cert.KernelIdeal.Gen.facts)
    (hReferenceIdeal := Cert.ReferenceIdeal.Gen.facts) (hPre_finite_qk := pre_facts) := by
  intro m g m' g' hpre hagree
  refine ⟨fun c => Cert.KernelIdeal.Gen.W4 m g c (Proc.devRef .tc Cert.KernelIdeal.main_v0),
    Cert.KernelIdeal.Value.run m g, ?_⟩
  refine (θ_run _ _ _).mono (fun r h c => ?_) (Cert.ReferenceIdeal.Value.run m' g')
  exact ⟨(h c).1.trans (Cert.KernelIdeal.Value.final (hPre := pre_facts) m g m' hpre c (hagree c).1 (hagree c).2.1 (hagree c).2.2),
    (h c).2⟩

/-- Every claim of the certificate. -/
theorem claim : Cert.Claim := ⟨Cert.Kernel.Gen.facts, Cert.KernelIdeal.Gen.facts, Cert.ReferenceIdeal.Gen.facts, pre_facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  IdealRules.named_const.statement Cert.KernelIdeal.κ "scale" .f32 0x3DB504F3#32 (((Real.sqrt 128)⁻¹ : ℝ) : EReal) rfl,
  algebraic⟩

end Cert.Proof

end
